-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x64x64 : Shape := ⟨4, ![16, 256, 64, 64]⟩
abbrev S128x128 : Shape := ⟨2, ![128, 128]⟩
abbrev S16x4096x256 : Shape := ⟨3, ![16, 4096, 256]⟩
abbrev S4096x256 : Shape := ⟨2, ![4096, 256]⟩
abbrev S16 : Shape := ⟨1, ![16]⟩
abbrev S128x64 : Shape := ⟨2, ![128, 64]⟩
abbrev S64x128 : Shape := ⟨2, ![64, 128]⟩
abbrev S1 : Shape := ⟨1, ![1]⟩
abbrev S_ : Shape := ⟨0, ![]⟩
abbrev S1x128x256 : Shape := ⟨3, ![1, 128, 256]⟩
abbrev S128x256 : Shape := ⟨2, ![128, 256]⟩
abbrev S16x64x64x256 : Shape := ⟨4, ![16, 64, 64, 256]⟩

abbrev nBuf : Space → Nat
  | .hbm => 6
  | .vmem => 3
  | .smem => 0
  | _ => 0

abbrev bufTy : (tb : Table) → Fin (tcTables nBuf tb) → BufTy
  | .hbm, ⟨0, _⟩ => ⟨S16x256x64x64, .f32⟩
  | .hbm, ⟨1, _⟩ => ⟨S128x128, .f32⟩
  | .hbm, ⟨2, _⟩ => ⟨S128x128, .f32⟩
  | .hbm, ⟨3, _⟩ => ⟨S16x4096x256, .f32⟩
  | .hbm, ⟨4, _⟩ => ⟨S16x64x64x256, .f32⟩
  | .hbm, ⟨5, _⟩ => ⟨S16x256x64x64, .f32⟩
  | .local _ .vmem, ⟨0, _⟩ => ⟨S128x128, .f32⟩
  | .local _ .vmem, ⟨1, _⟩ => ⟨S128x128, .f32⟩
  | .local _ .vmem, ⟨2, _⟩ => ⟨S4096x256, .f32⟩
  | _, _ => ⟨S16x256x64x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x256x64x64 : Shape := ⟨4, ![16, 256, 64, 64]⟩
abbrev S128x128 : Shape := ⟨2, ![128, 128]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S64x128 : Shape := ⟨2, ![64, 128]⟩
abbrev S1x64x128 : Shape := ⟨3, ![1, 64, 128]⟩
abbrev S1x1x1x64x1x128 : Shape := ⟨6, ![1, 1, 1, 64, 1, 128]⟩
abbrev S64x1x1x64x1x128 : Shape := ⟨6, ![64, 1, 1, 64, 1, 128]⟩
abbrev S64x64x128 : Shape := ⟨3, ![64, 64, 128]⟩
abbrev S64x1x128 : Shape := ⟨3, ![64, 1, 128]⟩
abbrev S1x64x1x1x1x128 : Shape := ⟨6, ![1, 64, 1, 1, 1, 128]⟩
abbrev S1x64x64x1x1x128 : Shape := ⟨6, ![1, 64, 64, 1, 1, 128]⟩
abbrev S64x64x256 : Shape := ⟨3, ![64, 64, 256]⟩
abbrev S256x64x64 : Shape := ⟨3, ![256, 64, 64]⟩
abbrev S1x256x64x64 : Shape := ⟨4, ![1, 256, 64, 64]⟩
abbrev S1x1x1x256x1x64x1x64 : Shape := ⟨8, ![1, 1, 1, 256, 1, 64, 1, 64]⟩
abbrev S16x1x1x256x1x64x1x64 : Shape := ⟨8, ![16, 1, 1, 256, 1, 64, 1, 64]⟩

abbrev nBuf : Space → Nat
  | .hbm => 65
  | .vmem => 0
  | .smem => 0
  | _ => 0

abbrev bufTy : (tb : Table) → Fin (tcTables nBuf tb) → BufTy
  | .hbm, ⟨0, _⟩ => ⟨S16x256x64x64, .f32⟩
  | .hbm, ⟨1, _⟩ => ⟨S128x128, .f32⟩
  | .hbm, ⟨2, _⟩ => ⟨S128x128, .f32⟩
  | .hbm, ⟨3, _⟩ => ⟨S64, .i32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S1, .i32⟩
  | .hbm, ⟨14, _⟩ => ⟨S_, .i32⟩
  | .hbm, ⟨15, _⟩ => ⟨S64x1, .i32⟩
  | .hbm, ⟨16, _⟩ => ⟨S64x1, .i1⟩
  | .hbm, ⟨17, _⟩ => ⟨S1x1, .i32⟩
  | .hbm, ⟨18, _⟩ => ⟨S64x1, .i32⟩
  | .hbm, ⟨19, _⟩ => ⟨S64x1, .i1⟩
  | .hbm, ⟨20, _⟩ => ⟨S64x1, .i1⟩
  | .hbm, ⟨21, _⟩ => ⟨S_, .i1⟩
  | .hbm, ⟨22, _⟩ => ⟨S64, .i1⟩
  | .hbm, ⟨23, _⟩ => ⟨S64x128, .f32⟩
  | .hbm, ⟨24, _⟩ => ⟨S64x128, .i1⟩
  | .hbm, ⟨25, _⟩ => ⟨S_, .f32⟩
  | .hbm, ⟨26, _⟩ => ⟨S64x128, .f32⟩
  | .hbm, ⟨27, _⟩ => ⟨S64x128, .f32⟩
  | .hbm, ⟨28, _⟩ => ⟨S_, .i32⟩
  | .hbm, ⟨29, _⟩ => ⟨S64, .i32⟩
  | .hbm, ⟨30, _⟩ => ⟨S64, .i1⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S64, .i32⟩
  | .hbm, ⟨35, _⟩ => ⟨S64x1, .i32⟩
  | .hbm, ⟨36, _⟩ => ⟨S1, .i32⟩
  | .hbm, ⟨37, _⟩ => ⟨S_, .i32⟩
  | .hbm, ⟨38, _⟩ => ⟨S64x1, .i32⟩
  | .hbm, ⟨39, _⟩ => ⟨S64x1, .i1⟩
  | .hbm, ⟨40, _⟩ => ⟨S1x1, .i32⟩
  | .hbm, ⟨41, _⟩ => ⟨S64x1, .i32⟩
  | .hbm, ⟨42, _⟩ => ⟨S64x1, .i1⟩
  | .hbm, ⟨43, _⟩ => ⟨S64x1, .i1⟩
  | .hbm, ⟨44, _⟩ => ⟨S_, .i1⟩
  | .hbm, ⟨45, _⟩ => ⟨S64, .i1⟩
  | .hbm, ⟨46, _⟩ => ⟨S64x128, .f32⟩
  | .hbm, ⟨47, _⟩ => ⟨S64x128, .i1⟩
  | .hbm, ⟨48, _⟩ => ⟨S_, .f32⟩
  | .hbm, ⟨49, _⟩ => ⟨S64x128, .f32⟩
  | .hbm, ⟨50, _⟩ => ⟨S64x128, .f32⟩
  | .hbm, ⟨51, _⟩ => ⟨S1x64x128, .f32⟩
  | .hbm, ⟨52, _⟩ => ⟨S1x1x1x64x1x128, .f32⟩
  | .hbm, ⟨53, _⟩ => ⟨S64x1x1x64x1x128, .f32⟩
  | .hbm, ⟨54, _⟩ => ⟨S64x64x128, .f32⟩
  | .hbm, ⟨55, _⟩ => ⟨S64x1x128, .f32⟩
  | .hbm, ⟨56, _⟩ => ⟨S1x64x1x1x1x128, .f32⟩
  | .hbm, ⟨57, _⟩ => ⟨S1x64x64x1x1x128, .f32⟩
  | .hbm, ⟨58, _⟩ => ⟨S64x64x128, .f32⟩
  | .hbm, ⟨59, _⟩ => ⟨S64x64x256, .f32⟩
  | .hbm, ⟨60, _⟩ => ⟨S256x64x64, .f32⟩
  | .hbm, ⟨61, _⟩ => ⟨S1x256x64x64, .f32⟩
  | .hbm, ⟨62, _⟩ => ⟨S1x1x1x256x1x64x1x64, .f32⟩
  | .hbm, ⟨63, _⟩ => ⟨S16x1x1x256x1x64x1x64, .f32⟩
  | .hbm, ⟨64, _⟩ => ⟨S16x256x64x64, .f32⟩
  | _, _ => ⟨S16x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩

abbrev nD : Nat := 1
abbrev τ : Topo := Topo.v7x

variable {F : FTy → Type} [FloatOps F]
-- ==== Proof.Spec.lean ====
module

public import Idealize.ShloMosaic.PureOps.Ideal
public import Idealize.ShloMosaic.Lib.Pointwise.Index

@[expose] public section

noncomputable section

namespace Cert.Embedding

open Idealize.ShloMosaic

/-- A table of 128 learned vectors of 128 numbers each. -/
abbrev Table : Shape := ⟨2, ![128, 128]⟩

/-- A batch of 16 images of 256 features at 64 × 64 places. -/
abbrev Images : Shape := ⟨4, ![16, 256, 64, 64]⟩

/-- The position embedding of a batch of images from the row table `h` and the column table `w`: at row `y` and column
    `x` of every image the first 128 features are the column table's vector number `x`, and the last 128 are the row
    table's vector number `y`. -/
def posEmb (h w : Table.Idx → EReal) : Images.Idx → EReal := fun z =>
  have h1 : (z 1).1 < 256 := (z 1).2
  have h2 : (z 2).1 < 64 := (z 2).2
  have h3 : (z 3).1 < 64 := (z 3).2
  if lt : (z 1).1 < 128 then w (ix2 ⟨(z 3).1, by omega⟩ ⟨(z 1).1, lt⟩)
  else h (ix2 ⟨(z 2).1, by omega⟩ ⟨(z 1).1 - 128, by omega⟩)

variable (h w : Table.Idx → EReal) (b : Fin 16) (f : Fin 256) (y x : Fin 64)

/-- The first 128 features at row `y` and column `x`. -/
theorem posEmb_left (lt : f.1 < 128) :
    posEmb h w (ix4 b f y x) = w (ix2 (⟨x.1, by omega⟩ : Fin 128) (⟨f.1, lt⟩ : Fin 128)) := dif_pos lt

/-- The last 128 features at row `y` and column `x`. -/
theorem posEmb_right (ge : ¬ f.1 < 128) :
    posEmb h w (ix4 b f y x) = h (ix2 (⟨y.1, by omega⟩ : Fin 128) (⟨f.1 - 128, by omega⟩ : Fin 128)) := dif_neg ge

end Cert.Embedding
-- ==== Proof.Flat.lean ====
module

public import proofs.«01_k».proof.Proof.Gen.KernelIdeal

@[expose] public section

noncomputable section

namespace Cert.KernelIdeal.Pos

open Idealize.ShloMosaic Idealize.ShloMosaic.TcCoe
open Idealize.SL Idealize.SL.Sem

variable {F : FTy → Type} [FloatOps F]

/-- Chunk `c`'s first row. -/
abbrev row (c : Fin 32) : ℕ := 128 * c.1

theorem inbLeft (c : Fin 32) : ∀ a, (![row c, 0] : Fin 2 → Nat) a + S128x128.size a ≤ S4096x256.size a := by
  revert c; decide

theorem inbRight (c : Fin 32) : ∀ a, (![row c, 128] : Fin 2 → Nat) a + S128x128.size a ≤ S4096x256.size a := by
  revert c; decide

theorem inbRows (c : Fin 32) : ∀ a, (![row c, 0] : Fin 2 → Nat) a + S128x256.size a ≤ S4096x256.size a := by
  revert c; decide

theorem inbPiece (i : Fin 16) (c : Fin 32) :
    ∀ a, (![i.1, row c, 0] : Fin 3 → Nat) a + S1x128x256.size a ≤ S16x4096x256.size a := by
  intro a
  fin_cases a
  · show i.1 + 1 ≤ 16; omega
  · show 128 * c.1 + 128 ≤ 4096; omega
  · show 0 + 256 ≤ 256; omega

theorem inbCell (i : Fin 16) : ∀ a, (![i.1] : Fin 1 → Nat) a + S1.size a ≤ S16.size a := by
  revert i; decide

/-- The absolute row numbers of chunk `c`: `128 c + j` at `(j, k)`. -/
def absRow (c : Fin 32) : IVec S128x64 32 :=
  addi (broadcast S128x64 (BitVec.ofNat 32 (row c))) (iota .tc S128x64 32 [0] Facts₀.iota_S128x64_d0_w32)

/-- The one-hot weights that select column `(128 c + j) mod 64`: `1` at `(j, k)` where that is `k`, else `0`. -/
def selW (c : Fin 32) : FVec F S128x64 .f32 :=
  have v5 : BitVec 32 := Scalar.select (Scalar.cmpi .eq 64#32 0#32) 1#32 64#32
  have v7 : IVec S128x64 32 := remsi (absRow c) (broadcast S128x64 v5)
  have v9 : IVec S128x64 1 := cmpi .ne v7 (broadcast S128x64 0#32)
  have v11 : IVec S128x64 1 := cmpi .slt v7 (broadcast S128x64 0#32)
  have v14 : IVec S128x64 1 := broadcastTo S128x64 (broadcast S128x64 (Scalar.cmpi .slt v5 0#32)) Facts₀.broadcasts_S128x64_S128x64
  have v16 : IVec S128x64 1 := andi (xori v11 v14) v9
  have v19 : IVec S128x64 32 := select v16 (addi v7 (broadcast S128x64 v5)) v7
  sitofp .f32 (extui 32 (cmpi .eq v19 (iota .tc S128x64 32 [1] Facts₀.iota_S128x64_d1_w32)) Facts₀.natLt_1_32)

/-- The one-hot weights that select row `(128 c + j) / 64`: `1` at `(j, k)` where that is `k`, else `0`. -/
def selH (c : Fin 32) : FVec F S128x64 .f32 :=
  have v24 : IVec S128x64 32 := divsi (absRow c) (broadcast S128x64 64#32)
  have v31 : IVec S128x64 32 :=
    subi (extui 32 (cmpi .sgt (absRow c) (broadcast S128x64 0#32)) Facts₀.natLt_1_32)
      (extui 32 (cmpi .slt (absRow c) (broadcast S128x64 0#32)) Facts₀.natLt_1_32)
  have v36 : BitVec 32 := Scalar.subi (Scalar.extui (Scalar.cmpi .sgt 64#32 0#32)) (Scalar.extui (Scalar.cmpi .slt 64#32 0#32))
  have v38 : IVec S128x64 1 := cmpi .ne v31 (broadcast S128x64 v36)
  have v42 : IVec S128x64 1 := cmpi .ne (remsi (absRow c) (broadcast S128x64 64#32)) (broadcast S128x64 0#32)
  have v46 : IVec S128x64 32 := select (andi v38 v42) (subi v24 (broadcast S128x64 1#32)) v24
  sitofp .f32 (extui 32 (cmpi .eq v46 (iota .tc S128x64 32 [1] Facts₀.iota_S128x64_d1_w32)) Facts₀.natLt_1_32)

/-- A chunk's half: the product of its one-hot weights with the 64 table rows. -/
def half (sel : FVec F S128x64 .f32) (tab : FVec F S64x128 .f32) : FVec F S128x128 .f32 :=
  shapeCast S128x128
    (matmul dot_S128x64_S64x128_S128x128_1_0_0_1_n_n (some .fp32) sel tab (constant S128x128 .f32 0x00000000#32))
    Facts₀.shapeCasts_S128x128_S128x128

/-- Continues with `f 0`, …, `f (n - 1)` one after another, the last `k` of them, and then `K`. -/
def each {A : Type 1} {n : ℕ} (f : Fin n → A → A) : (k : ℕ) → k ≤ n → A → A
  | 0, _, K => K
  | k + 1, h, K => f ⟨n - (k + 1), by omega⟩ (each f k (by omega) K)

variable (F) in
/-- The programs of the kernel's body. -/
abbrev Body : Type 1 := Prog (TpuEff nD τ sig (Elt F) Λ₀ .tc) PUnit

section body
variable (arg0 : Memref sig .tc .vmem S128x128 .f32) (arg1 : Memref sig .tc .vmem S128x128 .f32)
  (arg2 : Memref sig .tc .hbm S16x4096x256 .f32) (arg3 : Memref sig .tc .vmem S4096x256 .f32) (arg4 : DmaSems sig S16)

/-- Semaphore cell `i`. -/
abbrev cell (i : Fin 16) : DmaSem sig :=
  ((arg4.slice (Rect.unit (s := S16) ![i.1] S1.size (inbCell i))).squeeze S_ Facts₀.squeezes_S1_S_).sem

/-- The piece of the output that copy `i` of chunk `c` writes: batch `i`, the chunk's rows. -/
abbrev piece (i : Fin 16) (c : Fin 32) : Memref sig .tc .hbm S128x256 .f32 :=
  (arg2.slice (Rect.unit (s := S16x4096x256) ![i.1, row c, 0] S1x128x256.size (inbPiece i c)) (fun _ => rfl)).squeeze
    S128x256 Facts₀.squeezes_S1x128x256_S128x256

/-- The chunk's rows of the scratch buffer. -/
abbrev rows (c : Fin 32) : Memref sig .tc .vmem S128x256 .f32 :=
  arg3.slice (Rect.unit (s := S4096x256) ![row c, 0] S128x256.size (inbRows c)) (fun _ => rfl)

/-- Issue copy `i` of chunk `c` and go on. -/
def issue (c : Fin 32) (i : Fin 16) (K : Body F) : Body F :=
  .op (.enqueueDma (rows arg3 c) (.here (piece arg2 i c)) (.dma (cell arg4 i)) (View.wordExact_bits rfl)
    ((View.wordExact_bits rfl).reshape _ _) ⟨Or.inl rfl, trivial⟩) fun _ => K

/-- Wait for one copy on cell `i` (the one of chunk `c`, in the order of issue) and go on. -/
def await (c : Fin 32) (i : Fin 16) (K : Body F) : Body F :=
  .op (.waitDma2 (cell arg4 i) (rows arg3 c) (piece arg2 i c) (View.wordExact_bits rfl)
    ((View.wordExact_bits rfl).reshape _ _)) fun _ => K

/-- Compute chunk `c` into the scratch buffer, issue its sixteen copies and go on. -/
def chunk (c : Fin 32) (K : Body F) : Body F :=
  .op (.load arg1 (Rect.unit (s := S128x128) ![0, 0] S64x128.size Facts₀.inb_S128x128_S64x128_0_0).toLoadRect
    (View.loadsAt_vmem Facts₀.h_S64x128)) fun (tw : Vec F S64x128 .f32) =>
  .op (.load arg0 (Rect.unit (s := S128x128) ![0, 0] S64x128.size Facts₀.inb_S128x128_S64x128_0_0).toLoadRect
    (View.loadsAt_vmem Facts₀.h_S64x128)) fun (th : Vec F S64x128 .f32) =>
  .op (.load arg3 (Rect.unit (s := S4096x256) ![row c, 0] S128x128.size (inbLeft c)).toLoadRect
    (View.loadsAt_vmem Facts₀.h_S128x128)) fun _ =>
  .op (.store arg3 (Rect.unit (s := S4096x256) ![row c, 0] S128x128.size (inbLeft c)) (half (selW c) tw)
    Finset.univ (View.stores_vmem_bits_univ Facts₀.h_S128x128 rfl) (.inl rfl)) fun _ =>
  .op (.load arg3 (Rect.unit (s := S4096x256) ![row c, 128] S128x128.size (inbRight c)).toLoadRect
    (View.loadsAt_vmem Facts₀.h_S128x128)) fun _ =>
  .op (.store arg3 (Rect.unit (s := S4096x256) ![row c, 128] S128x128.size (inbRight c)) (half (selH c) th)
    Finset.univ (View.stores_vmem_bits_univ Facts₀.h_S128x128 rfl) (.inl rfl)) fun _ =>
  each (issue arg2 arg3 arg4 c) 16 le_rfl K

/-- The kernel's body laid out: every chunk computed and sent, then every copy awaited in the order of issue. -/
def flat : Body F :=
  each (chunk arg0 arg1 arg2 arg3 arg4) 32 le_rfl
    (each (fun c => each (await arg2 arg3 arg4 c) 16 le_rfl) 32 le_rfl (.ret ⟨⟩))

set_option maxRecDepth 1000000 in
/-- The kernel's body is the laid-out program. -/
theorem body_eq_flat (harg0 : arg0.IsWhole) (harg1 : arg1.IsWhole) (harg2 : arg2.IsWhole) (harg3 : arg3.IsWhole) :
    cc0__body (F := F) arg0 harg0 arg1 harg1 arg2 harg2 arg3 harg3 arg4 = flat arg0 arg1 arg2 arg3 arg4 := by
  rfl

end body

end Cert.KernelIdeal.Pos
-- ==== Proof.Contents.lean ====
module

public import proofs.«01_k».proof.Proof.Flat
public import Idealize.ShloMosaic.Lib.ValueIdxCore

@[expose] public section

noncomputable section

namespace Cert.KernelIdeal.Pos

open Idealize.ShloMosaic Idealize.ShloMosaic.TcCoe
open Idealize.ShloMosaic.ValueIdx (ix1 ix2 ix3)
open Idealize.SL Idealize.SL.Sem

variable {F : FTy → Type} [FloatOps F]

/-- The scratch buffer and the output, whole. -/
abbrev scr : Memref sig .tc .vmem S4096x256 .f32 := Memref.whole cc0_scratch0
abbrev out : Memref sig .tc .hbm S16x4096x256 .f32 := Memref.whole main_v0

/-- The left and the right half of chunk `c`'s rows of the scratch buffer, as the stores name them. -/
abbrev leftV (c : Fin 32) : View sig .tc .vmem S128x128 .f32 :=
  scr.access (Rect.unit (s := S4096x256) ![row c, 0] S128x128.size (inbLeft c))
abbrev rightV (c : Fin 32) : View sig .tc .vmem S128x128 .f32 :=
  scr.access (Rect.unit (s := S4096x256) ![row c, 128] S128x128.size (inbRight c))

/-- What the scratch buffer holds once every chunk is computed, from the first 64 rows `th`, `tw` of the two tables:
    row `128 c + j` is row `j` of chunk `c`'s column half, then row `j` of its row half. -/
def scrP (th tw : Vec F S64x128 .f32) : Vec F S4096x256 .f32 := fun x =>
  have h0 : (x 0).1 < 4096 := (x 0).2
  have h1 : (x 1).1 < 256 := (x 1).2
  if h : (x 1).1 < 128 then half (selW ⟨(x 0).1 / 128, by omega⟩) tw (ix2 ⟨(x 0).1 % 128, by omega⟩ ⟨(x 1).1, h⟩)
  else half (selH ⟨(x 0).1 / 128, by omega⟩) th (ix2 ⟨(x 0).1 % 128, by omega⟩ ⟨(x 1).1 - 128, by omega⟩)

/-- What the output holds at the end: every batch the scratch buffer's contents. -/
def outG (th tw : Vec F S64x128 .f32) : Vec F S16x4096x256 .f32 := fun x => scrP th tw (ix2 (x 1) (x 2))

theorem scrP_left (th tw : Vec F S64x128 .f32) (c : Fin 32) (j k : Fin 128) (x : S4096x256.Idx)
    (h0 : (x 0).1 = 128 * c.1 + j.1) (h1 : (x 1).1 = k.1) : scrP th tw x = half (selW c) tw (ix2 j k) := by
  have e1 : (x 0).1 / 128 = c.1 := by omega
  have e2 : (x 0).1 % 128 = j.1 := by omega
  unfold scrP
  simp only [e1, e2, h1]
  rw [dif_pos k.2]

theorem scrP_right (th tw : Vec F S64x128 .f32) (c : Fin 32) (j k : Fin 128) (x : S4096x256.Idx)
    (h0 : (x 0).1 = 128 * c.1 + j.1) (h1 : (x 1).1 = 128 + k.1) : scrP th tw x = half (selH c) th (ix2 j k) := by
  have e1 : (x 0).1 / 128 = c.1 := by omega
  have e2 : (x 0).1 % 128 = j.1 := by omega
  unfold scrP
  simp only [e1, e2, h1]
  rw [dif_neg (by omega)]
  simp only [Nat.add_sub_cancel_left]

/-- The left half of a chunk, read off the final scratch contents. -/
theorem read_left (th tw : Vec F S64x128 .f32) (c : Fin 32) :
    (leftV c).read (Elt F) (scrP th tw) = half (selW c) tw := by
  funext y
  refine (scrP_left th tw c (y 0) (y 1) _ ?_ ?_).trans (congrArg _ ?_)
  · show 128 * c.1 + 1 * (y 0).1 = _; omega
  · show 0 + 1 * (y 1).1 = _; omega
  · funext a; fin_cases a <;> rfl

/-- The right half of a chunk, read off the final scratch contents. -/
theorem read_right (th tw : Vec F S64x128 .f32) (c : Fin 32) :
    (rightV c).read (Elt F) (scrP th tw) = half (selH c) th := by
  funext y
  refine (scrP_right th tw c (y 0) (y 1) _ ?_ ?_).trans (congrArg _ ?_)
  · show 128 * c.1 + 1 * (y 0).1 = _; omega
  · show 128 + 1 * (y 1).1 = _; omega
  · funext a; fin_cases a <;> rfl

/-- A piece of the output at its end contents reads as the chunk's rows of the scratch buffer at theirs. -/
theorem read_piece (th tw : Vec F S64x128 .f32) (i : Fin 16) (c : Fin 32) :
    (piece out i c).view.read (Elt F) (outG th tw) = (rows scr c).view.read (Elt F) (scrP th tw) := by
  funext y
  have h : (piece out i c).view.read (Elt F) (outG th tw) y
      = outG th tw ((Rect.unit (s := S16x4096x256) ![i.1, row c, 0] S1x128x256.size (inbPiece i c)).emb
          (Shape.reshapeEquiv Facts₀.squeezes_S1x128x256_S128x256.numel_eq y)) := rfl
  rw [h, Shape.reshapeEquiv_cons_one]
  show scrP th tw _ = scrP th tw _
  congr 1
  funext a
  fin_cases a <;> rfl

/-! ## Which elements each view names -/

/-- The chunk's rows, as elements of the scratch buffer. -/
theorem mem_rows (c : Fin 32) (x : S4096x256.Idx) :
    x ∈ (rows scr c).view.set ↔ 128 * c.1 ≤ (x 0).1 ∧ (x 0).1 < 128 * c.1 + 128 := by
  have h1 : (x 1).1 < 256 := (x 1).2
  have h : (rows scr c).view.set = (Rect.unit (s := S4096x256) ![row c, 0] S128x256.size (inbRows c)).set :=
    (View.set_slice _ _).trans (Finset.map_refl)
  rw [h, Rect.mem_set_unit, Fin.forall_fin_two]
  show (128 * c.1 ≤ (x 0).1 ∧ (x 0).1 < 128 * c.1 + 128) ∧ (0 ≤ (x 1).1 ∧ (x 1).1 < 0 + 256) ↔ _
  omega

theorem mem_left (c : Fin 32) (x : S4096x256.Idx) :
    x ∈ (leftV c).set ↔ (128 * c.1 ≤ (x 0).1 ∧ (x 0).1 < 128 * c.1 + 128) ∧ (x 1).1 < 128 := by
  have h : (leftV c).set = (Rect.unit (s := S4096x256) ![row c, 0] S128x128.size (inbLeft c)).set :=
    (View.set_slice _ _).trans (Finset.map_refl)
  rw [h, Rect.mem_set_unit, Fin.forall_fin_two]
  show (128 * c.1 ≤ (x 0).1 ∧ (x 0).1 < 128 * c.1 + 128) ∧ (0 ≤ (x 1).1 ∧ (x 1).1 < 0 + 128) ↔ _
  omega

theorem mem_right (c : Fin 32) (x : S4096x256.Idx) :
    x ∈ (rightV c).set ↔ (128 * c.1 ≤ (x 0).1 ∧ (x 0).1 < 128 * c.1 + 128) ∧ 128 ≤ (x 1).1 := by
  have h1 : (x 1).1 < 256 := (x 1).2
  have h : (rightV c).set = (Rect.unit (s := S4096x256) ![row c, 128] S128x128.size (inbRight c)).set :=
    (View.set_slice _ _).trans (Finset.map_refl)
  rw [h, Rect.mem_set_unit, Fin.forall_fin_two]
  show (128 * c.1 ≤ (x 0).1 ∧ (x 0).1 < 128 * c.1 + 128) ∧ (128 ≤ (x 1).1 ∧ (x 1).1 < 128 + 128) ↔ _
  omega

theorem left_sub (c : Fin 32) : (leftV c).set ⊆ (rows scr c).view.set := fun x hx =>
  (mem_rows c x).2 ((mem_left c x).1 hx).1

theorem right_sub (c : Fin 32) : (rightV c).set ⊆ (rows scr c).view.set := fun x hx =>
  (mem_rows c x).2 ((mem_right c x).1 hx).1

/-- A piece of the output: batch `i`, the chunk's rows. -/
theorem mem_piece (i : Fin 16) (c : Fin 32) (x : S16x4096x256.Idx) :
    x ∈ (piece out i c).view.set ↔ (x 0).1 = i.1 ∧ 128 * c.1 ≤ (x 1).1 ∧ (x 1).1 < 128 * c.1 + 128 := by
  have h2 : (x 2).1 < 256 := (x 2).2
  have h : (piece out i c).view.set = (Rect.unit (s := S16x4096x256) ![i.1, row c, 0] S1x128x256.size (inbPiece i c)).set :=
    (View.set_reshape _ _).trans ((View.set_slice _ _).trans (Finset.map_refl))
  rw [h, Rect.mem_set_unit]
  constructor
  · intro hx
    have a0 : i.1 ≤ (x 0).1 ∧ (x 0).1 < i.1 + 1 := hx 0
    have a1 : 128 * c.1 ≤ (x 1).1 ∧ (x 1).1 < 128 * c.1 + 128 := hx 1
    omega
  · intro hx a
    match a with
    | ⟨0, _⟩ => show i.1 ≤ (x 0).1 ∧ (x 0).1 < i.1 + 1; omega
    | ⟨1, _⟩ => show 128 * c.1 ≤ (x 1).1 ∧ (x 1).1 < 128 * c.1 + 128; omega
    | ⟨2, _⟩ => show 0 ≤ (x 2).1 ∧ (x 2).1 < 0 + 256; omega

theorem rows_disjoint (c c' : Fin 32) (h : c ≠ c') : Disjoint (rows scr c).view.set (rows scr c').view.set := by
  refine Finset.disjoint_left.2 fun x hx hx' => h (Fin.ext ?_)
  have := (mem_rows c x).1 hx
  have := (mem_rows c' x).1 hx'
  omega

/-- The chunks' rows make up the scratch buffer. -/
theorem rows_cover : (Finset.univ.biUnion fun c => (rows scr c).view.set) = (Finset.univ : Finset S4096x256.Idx) := by
  refine Finset.eq_univ_iff_forall.2 fun x => Finset.mem_biUnion.2 ?_
  have h0 : (x 0).1 < 4096 := (x 0).2
  refine ⟨⟨(x 0).1 / 128, by omega⟩, Finset.mem_univ _, (mem_rows _ x).2 ?_⟩
  show 128 * ((x 0).1 / 128) ≤ (x 0).1 ∧ (x 0).1 < 128 * ((x 0).1 / 128) + 128
  omega

theorem piece_disjoint (p p' : Fin 16 × Fin 32) (h : p ≠ p') :
    Disjoint (piece out p.1 p.2).view.set (piece out p'.1 p'.2).view.set := by
  refine Finset.disjoint_left.2 fun x hx hx' => h (Prod.ext (Fin.ext ?_) (Fin.ext ?_))
  · have := (mem_piece p.1 p.2 x).1 hx
    have := (mem_piece p'.1 p'.2 x).1 hx'
    omega
  · have := (mem_piece p.1 p.2 x).1 hx
    have := (mem_piece p'.1 p'.2 x).1 hx'
    omega

/-- The pieces make up the output. -/
theorem piece_cover :
    (Finset.univ.biUnion fun p : Fin 16 × Fin 32 => (piece out p.1 p.2).view.set) = (Finset.univ : Finset S16x4096x256.Idx) := by
  refine Finset.eq_univ_iff_forall.2 fun x => Finset.mem_biUnion.2 ?_
  have h1 : (x 1).1 < 4096 := (x 1).2
  refine ⟨(x 0, ⟨(x 1).1 / 128, by omega⟩), Finset.mem_univ _, (mem_piece _ _ x).2 ⟨rfl, ?_⟩⟩
  show 128 * ((x 1).1 / 128) ≤ (x 1).1 ∧ (x 1).1 < 128 * ((x 1).1 / 128) + 128
  omega

/-! ## What the two stores and a copy leave -/

/-- The two stores of a chunk leave its rows at the final scratch contents, whatever was there before. -/
theorem stores_agree (th tw : Vec F S64x128 .f32) (c : Fin 32) (f : Vec F S4096x256 .f32) (x : S4096x256.Idx)
    (hx : x ∈ (rows scr c).view.set) :
    (rightV c).write (Elt F) ((leftV c).write (Elt F) f (half (selW c) tw) Finset.univ) (half (selH c) th) Finset.univ x
      = scrP th tw x := by
  rw [← read_left th tw c, ← read_right th tw c, View.write_read_eq_piecewise, View.write_read_eq_piecewise, View.setOn_univ, View.setOn_univ]
  by_cases h : (x 1).1 < 128
  · rw [Finset.piecewise_eq_of_notMem _ _ _ (fun hr => absurd ((mem_right c x).1 hr).2 (by omega)),
      Finset.piecewise_eq_of_mem _ _ _ ((mem_left c x).2 ⟨(mem_rows c x).1 hx, h⟩)]
  · rw [Finset.piecewise_eq_of_mem _ _ _ ((mem_right c x).2 ⟨(mem_rows c x).1 hx, by omega⟩)]

/-- A copy leaves its piece of the output at the end contents, whatever was there before. -/
theorem copy_agree (th tw : Vec F S64x128 .f32) (i : Fin 16) (c : Fin 32) (g : Vec F S16x4096x256 .f32) (x : S16x4096x256.Idx)
    (hx : x ∈ (piece out i c).view.set) :
    (piece out i c).view.write (Elt F) g ((rows scr c).view.read (Elt F) (scrP th tw)) Finset.univ x = outG th tw x := by
  rw [← read_piece th tw i c, View.write_read_eq_piecewise, View.setOn_univ, Finset.piecewise_eq_of_mem _ _ _ hx]

end Cert.KernelIdeal.Pos
-- ==== Proof.Copies.lean ====
module

public import proofs.«01_k».proof.Proof.Contents
public import proofs.«01_k».proof.Proof.Gen.KernelIdeal.Launch
public import Idealize.ShloMosaic.Lib.Pipeline.FrameBody
public import Idealize.ShloMosaic.Lib.Batch
public import Idealize.ShloMosaic.Lib.ShareLeaves
public import Idealize.ShloMosaic.Lib.Tactic

@[expose] public section

noncomputable section

namespace Cert.KernelIdeal.Pos

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (pending)

variable {F : FTy → Type} [FloatOps F]

local notation "𝕄" => MT nD τ sig Unit (Elt F) ℕ (Pipeline.UD sig nD τ) ℕ

/-! ## A rule for programs repeated over an index -/

/-- A program repeated `n` times: where step `i` takes the state `J i` to `J (i + 1)`, the last `k` steps take `J (n - k)`
    to `J n`. -/
theorem each_rule {A : Type 1} {n : ℕ} {f : Fin n → A → A} (W : A → sProp 𝕄) (J : ℕ → sProp 𝕄)
    (h : ∀ (i : Fin n) (K : A), J i.1 ⊢ iprop((J (i.1 + 1) -∗ W K) -∗ W (f i K))) (K : A) :
    ∀ (k : ℕ) (hk : k ≤ n), J (n - k) ⊢ iprop((J n -∗ W K) -∗ W (each f k hk K))
  | 0, _ => by
    show J n ⊢ iprop((J n -∗ W K) -∗ W K)
    iintro HJ HK
    iapply HK
    iexact HJ
  | k + 1, hk => by
    have ih := each_rule W J h K k (by omega)
    have e : n - (k + 1) + 1 = n - k := by omega
    have hs := h ⟨n - (k + 1), by omega⟩ (each f k (by omega) K)
    simp only [e] at hs
    show J (n - (k + 1)) ⊢ iprop((J n -∗ W K) -∗ W (f ⟨n - (k + 1), by omega⟩ (each f k (by omega) K)))
    iintro HJ HK
    iapply hs $$ HJ
    iintro HJ
    iapply ih $$ HJ HK

section run
variable (d : Dev nD) (th tw : Vec F S64x128 .f32)

/-- The scratch buffer, the output and the semaphore cells on device `d`. -/
abbrev scrL : Loc nD τ sig := scr.view.loc (d : Thread nD τ)
abbrev outL : Loc nD τ sig := out.view.loc (d : Thread nD τ)
abbrev cellL (i : Fin 16) : SemLoc sig := .dma (cell cc0_scratch1 i)

/-- Semaphore units of one copy. -/
def unit : ℕ := (piece out 0 0).view.dmaCredit

theorem unit_eq (i : Fin 16) (c : Fin 32) : (piece out i c).view.dmaCredit = unit := rfl

theorem unit_pos : 0 < unit := View.dmaCredit_pos _ (by decide)

/-- The share of the chunk's rows that copy `i` borrows. -/
abbrev shr (i : Fin 16) : PosShare TreeShare := ShareLeaves.leaf 4 fullShare i

/-- What copy `i` of chunk `c` gives back: its piece of the output at the end contents and its share of the rows. -/
def Dlv (i : Fin 16) (c : Fin 32) : sProp 𝕄 :=
  iprop((outL d ↦[(piece out i c).view.set]{fullShare} outG th tw) ∗ (scrL d ↦[(rows scr c).view.set]{shr i} scrP th tw))

instance (i : Fin 16) (c : Fin 32) : Storable (upEmb : UEmb _ 𝕄) (Dlv d th tw i c) := by unfold Dlv; infer_instance

/-- Cell `i` with `j` copies issued and `u` units consumed. -/
abbrev B (i : Fin 16) (j u : ℕ) : sProp 𝕄 :=
  Transfers.Batch (countersEmb (U := Pipeline.UD sig nD τ)) (d : Thread nD τ) (cellL i) () unit (Dlv d th tw i) j u

/-- The weakest precondition of a program of the body. -/
abbrev Wp (Q : PUnit → sProp 𝕄) (K : Body F) : sProp 𝕄 :=
  wp frame (wpE (defs₀ (F := F)) Variants.none (d : Thread nD τ) none) Set.univ K Q

/-- Issuing copy `i` of chunk `c` adds it to its cell's batch. -/
theorem issue_rule (Q : PUnit → sProp 𝕄) (g : Vec F S16x4096x256 .f32) (c : Fin 32) (i : Fin 16) (K : Body F) :
    iprop((scrL d ↦[(rows scr c).view.set]{shr i} scrP th tw) ∗ (outL d ↦[(piece out i c).view.set]{fullShare} g) ∗ B d th tw i c.1 0)
      ⊢ iprop((B d th tw i (c.1 + 1) 0 -∗ Wp d Q K) -∗ Wp d Q (issue out scr cc0_scratch1 c i K)) := by
  unfold issue
  refine Transfers.wp_dmaBatch (Ix := Unit) (Name := ℕ) (Lvl := ℕ) (countersEmb (U := Pipeline.UD sig nD τ)) Variants.none (d : Thread nD τ) none
    (defs := defs₀ (F := F)) (Val := Elt F) (Q := Q) (k := fun _ => K) (src := rows scr c) (via := ReadAs.same) (dst := piece out i c)
    (sm := cellL i) (q := shr i) (fs := scrP th tw) (fd := g) (D := Dlv d th tw i) () unit (unit_eq i c)
    (fun _ h => h) c.2 (Nat.zero_le _) ?_
  unfold Dlv
  have e : (outL d ↦[(piece out i c).view.set]{fullShare}
        (piece out i c).view.write (Elt F) g ((rows scr c).view.read (Elt F) (scrP th tw)) Finset.univ : sProp 𝕄)
      = outL d ↦[(piece out i c).view.set]{fullShare} outG th tw :=
    pointsTo_congr fun x hx => copy_agree th tw i c g x hx
  rw [← e]

/-- Waiting once on cell `i` consumes one copy's units. -/
theorem await_rule (Q : PUnit → sProp 𝕄) (c : Fin 32) (i : Fin 16) (K : Body F) :
    iprop(B d th tw i 32 (unit * c.1) ∗ (∃ W, owes (d : Thread nD τ) 0 W))
      ⊢ iprop((iprop(B d th tw i 32 (unit * (c.1 + 1)) ∗ (∃ W, owes (d : Thread nD τ) 0 W)) -∗ Wp d Q K)
          -∗ Wp d Q (await out scr cc0_scratch1 c i K)) := by
  unfold await
  have hc := c.2
  have e : unit * c.1 + 1 * unit = unit * (c.1 + 1) := by rw [Nat.one_mul, Nat.mul_succ]
  have hu : unit * c.1 + 1 * unit ≤ unit * 32 := e ▸ Nat.mul_le_mul_left _ (by omega)
  iintro ⟨HB, %W, HO⟩ HK
  iapply (Transfers.wp_waitBatchMul (Lvl := ℕ) (countersEmb (U := Pipeline.UD sig nD τ)) Variants.none (d : Thread nD τ) none
    () 1 ((unit_eq i c).trans (Nat.one_mul _).symm) hu) $$ [HB HO]
  · isplitl [HB] <;> iassumption
  rw [e]
  iintro ⟨HB, HO⟩
  iapply HK
  isplitl [HB]; · iexact HB
  iexists _
  iexact HO

/-- The sixteen copies of chunk `c`: every cell's batch one longer. -/
theorem issues_rule (Q : PUnit → sProp 𝕄) (g : Vec F S16x4096x256 .f32) (c : Fin 32) (K : Body F) :
    iprop((scrL d ↦[(rows scr c).view.set]{fullShare} scrP th tw)
        ∗ (bigSep Finset.univ fun i => outL d ↦[(piece out i c).view.set]{fullShare} g) ∗ bigSep Finset.univ fun i => B d th tw i c.1 0)
      ⊢ iprop(((bigSep Finset.univ fun i => B d th tw i (c.1 + 1) 0) -∗ Wp d Q K)
          -∗ Wp d Q (each (issue out scr cc0_scratch1 c) 16 le_rfl K)) := by
  have key := each_rule (n := 16) (f := issue (F := F) out scr cc0_scratch1 c) (Wp d Q)
    (fun k => iprop((bigSep Finset.univ fun i : Fin 16 => B d th tw i (if i.1 < k then c.1 + 1 else c.1) 0)
      ∗ bigSep (pending (n := 16) k) fun i => iprop((scrL d ↦[(rows scr c).view.set]{shr i} scrP th tw)
          ∗ (outL d ↦[(piece out i c).view.set]{fullShare} g)))) ?_ K 16 le_rfl
  · have e0 : (bigSep Finset.univ fun i : Fin 16 => B d th tw i (if i.1 < 0 then c.1 + 1 else c.1) 0)
        = bigSep Finset.univ fun i => B d th tw i c.1 0 := bigSep_congr fun i _ => by simp only [Nat.not_lt_zero, if_false]
    have e1 : (bigSep Finset.univ fun i : Fin 16 => B d th tw i (if i.1 < 16 then c.1 + 1 else c.1) 0)
        = bigSep Finset.univ fun i => B d th tw i (c.1 + 1) 0 := bigSep_congr fun i _ => by simp only [i.2, if_true]
    have e2 : (scrL d ↦[(rows scr c).view.set]{fullShare} scrP th tw : sProp 𝕄)
        = bigSep Finset.univ fun i : Fin 16 => scrL d ↦[(rows scr c).view.set]{shr i} scrP th tw := ShareLeaves.pointsTo_leaves _ _ 4 fullShare
    rw [Nat.sub_self, Transfers.pending_zero, bigSep_sep', e0, e1] at key
    rw [e2]
    iintro ⟨HS, HO, HB⟩ HK
    iapply key $$ [HS HO HB]
    · isplitl [HB]; · iexact HB
      isplitl [HS] <;> iassumption
    iintro ⟨HB, -⟩
    iapply HK
    iexact HB
  · intro i K
    rw [Transfers.bigSep_pending_step _ i.1 i.2]
    have hup := bigSep_univ_update (M := 𝕄) (Φ := fun j : Fin 16 => B d th tw j (if j.1 < i.1 then c.1 + 1 else c.1) 0)
      (Ψ := fun j : Fin 16 => B d th tw j (if j.1 < i.1 + 1 then c.1 + 1 else c.1) 0) i (fun j hj => by
        have : j.1 ≠ i.1 := fun h => hj (Fin.ext h)
        have e : (j.1 < i.1 + 1) = (j.1 < i.1) := propext (by omega)
        simp only [e])
    simp only [Nat.lt_irrefl, if_false, Nat.lt_succ_self, if_true] at hup
    iintro ⟨HB, ⟨HS, HO⟩, Hrest⟩ HK
    ihave H := hup $$ HB
    icases H with ⟨Hi, Hback⟩
    iapply (issue_rule d th tw Q g c i K) $$ [HS HO Hi]
    · isplitl [HS]; · iexact HS
      isplitl [HO] <;> iassumption
    iintro Hi
    iapply HK
    isplitl [Hi Hback]
    · iapply Hback $$ Hi
    iexact Hrest

/-- The sixteen waits in the order of chunk `c`'s copies: every cell one copy's units on. -/
theorem awaits_rule (Q : PUnit → sProp 𝕄) (c : Fin 32) (K : Body F) :
    iprop((bigSep Finset.univ fun i => B d th tw i 32 (unit * c.1)) ∗ (∃ W, owes (d : Thread nD τ) 0 W))
      ⊢ iprop((iprop((bigSep Finset.univ fun i => B d th tw i 32 (unit * (c.1 + 1))) ∗ (∃ W, owes (d : Thread nD τ) 0 W)) -∗ Wp d Q K)
          -∗ Wp d Q (each (await out scr cc0_scratch1 c) 16 le_rfl K)) := by
  have key := each_rule (n := 16) (f := await (F := F) out scr cc0_scratch1 c) (Wp d Q)
    (fun k => iprop((bigSep Finset.univ fun i : Fin 16 => B d th tw i 32 (unit * (if i.1 < k then c.1 + 1 else c.1)))
      ∗ (∃ W, owes (d : Thread nD τ) 0 W))) ?_ K 16 le_rfl
  · have e0 : (bigSep Finset.univ fun i : Fin 16 => B d th tw i 32 (unit * (if i.1 < 0 then c.1 + 1 else c.1)))
        = bigSep Finset.univ fun i => B d th tw i 32 (unit * c.1) := bigSep_congr fun i _ => by simp only [Nat.not_lt_zero, if_false]
    have e1 : (bigSep Finset.univ fun i : Fin 16 => B d th tw i 32 (unit * (if i.1 < 16 then c.1 + 1 else c.1)))
        = bigSep Finset.univ fun i => B d th tw i 32 (unit * (c.1 + 1)) := bigSep_congr fun i _ => by simp only [i.2, if_true]
    rw [Nat.sub_self, e0, e1] at key
    exact key
  · intro i K
    have hup := bigSep_univ_update (M := 𝕄) (Φ := fun j : Fin 16 => B d th tw j 32 (unit * (if j.1 < i.1 then c.1 + 1 else c.1)))
      (Ψ := fun j : Fin 16 => B d th tw j 32 (unit * (if j.1 < i.1 + 1 then c.1 + 1 else c.1))) i (fun j hj => by
        have : j.1 ≠ i.1 := fun h => hj (Fin.ext h)
        have e : (j.1 < i.1 + 1) = (j.1 < i.1) := propext (by omega)
        simp only [e])
    simp only [Nat.lt_irrefl, if_false, Nat.lt_succ_self, if_true] at hup
    iintro ⟨HB, HO⟩ HK
    ihave H := hup $$ HB
    icases H with ⟨Hi, Hback⟩
    iapply (await_rule d th tw Q c i K) $$ [HO Hi]
    · isplitl [Hi] <;> iassumption
    iintro ⟨Hi, HO⟩
    iapply HK
    isplitl [Hi Hback]
    · iapply Hback $$ Hi
    iexact HO

end run

end Cert.KernelIdeal.Pos
-- ==== Proof.Run.lean ====
module

public import proofs.«01_k».proof.Proof.Copies

@[expose] public section

noncomputable section

namespace Cert.KernelIdeal.Pos

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (pending)

variable {F : FTy → Type} [FloatOps F]

local notation "𝕄" => MT nD τ sig Unit (Elt F) ℕ (Pipeline.UD sig nD τ) ℕ

/-- The first 64 rows of a table. -/
def top (x : Vec F S128x128 .f32) : Vec F S64x128 .f32 := fun y =>
  x ((Rect.unit (s := S128x128) ![0, 0] S64x128.size Facts₀.inb_S128x128_S64x128_0_0).emb y)

section run
variable (d : Dev nD) (xh xw : Vec F S128x128 .f32)
  (arg0 arg1 : Memref sig .tc .vmem S128x128 .f32)

/-- The two tables' blocks, held whole. -/
abbrev tables : sProp 𝕄 := iprop(owns (d : Thread nD τ) arg0 fullShare xh ∗ owns (d : Thread nD τ) arg1 fullShare xw)

/-- What a chunk still to come needs: its rows of the scratch buffer and its sixteen pieces of the output, at what they held
    at the start. -/
abbrev Todo (f : Vec F S4096x256 .f32) (g : Vec F S16x4096x256 .f32) (c : Fin 32) : sProp 𝕄 :=
  iprop((scrL d ↦[(rows scr c).view.set]{fullShare} f) ∗ bigSep Finset.univ fun i : Fin 16 => outL d ↦[(piece out i c).view.set]{fullShare} g)

/-- One chunk: its rows computed and its sixteen copies issued. -/
theorem chunk_rule (Q : PUnit → sProp 𝕄) (f : Vec F S4096x256 .f32) (g : Vec F S16x4096x256 .f32) (c : Fin 32) (K : Body F) :
    iprop(tables d xh xw arg0 arg1 ∗ Todo d f g c ∗ bigSep Finset.univ fun i => B d (top xh) (top xw) i c.1 0)
      ⊢ iprop((iprop(tables d xh xw arg0 arg1 ∗ bigSep Finset.univ fun i => B d (top xh) (top xw) i (c.1 + 1) 0) -∗ Wp d Q K)
          -∗ Wp d Q (chunk arg0 arg1 out scr cc0_scratch1 c K)) := by
  have eS : (scrL d ↦[(rows scr c).view.set]{fullShare}
        (rightV c).write (Elt F) ((leftV c).write (Elt F) f (half (selW c) (top xw)) Finset.univ) (half (selH c) (top xh)) Finset.univ : sProp 𝕄)
      = scrL d ↦[(rows scr c).view.set]{fullShare} scrP (top xh) (top xw) :=
    pointsTo_congr fun x hx => stores_agree (top xh) (top xw) c f x hx
  unfold chunk tables owns
  iintro ⟨⟨⟨%f0, %e0, H0⟩, %f1, %e1, H1⟩, ⟨HS, HO⟩, HB⟩ HK
  iapply (wp_load (Γ := .empty) Variants.none (d : Thread nD τ) none Set.univ (View.setOn_subset_set _ _)) $$ H1
  iintro H1
  iapply (wp_load (Γ := .empty) Variants.none (d : Thread nD τ) none Set.univ (View.setOn_subset_set _ _)) $$ H0
  iintro H0
  iapply (wp_load_rect (Γ := .empty) Variants.none (d : Thread nD τ) none Set.univ (left_sub c)) $$ HS
  iintro HS
  iapply (wp_store (Γ := .empty) Variants.none (d : Thread nD τ) none Set.univ (left_sub c)) $$ HS
  iintro HS
  iapply (wp_load_rect (Γ := .empty) Variants.none (d : Thread nD τ) none Set.univ (right_sub c)) $$ HS
  iintro HS
  iapply (wp_store (Γ := .empty) Variants.none (d : Thread nD τ) none Set.univ (right_sub c)) $$ HS
  iintro HS
  have t1 : arg1.view.readAt (Elt F) (Rect.unit (s := S128x128) ![0, 0] S64x128.size Facts₀.inb_S128x128_S64x128_0_0).toLoadRect f1 = top xw := by
    subst e1; rfl
  have t0 : arg0.view.readAt (Elt F) (Rect.unit (s := S128x128) ![0, 0] S64x128.size Facts₀.inb_S128x128_S64x128_0_0).toLoadRect f0 = top xh := by
    subst e0; rfl
  rw [t1, t0]
  iapply (issues_rule d (top xh) (top xw) Q g c K) $$ [HS HO HB]
  · isplitl [HS]
    · rw [← eS]; iexact HS
    isplitl [HO] <;> iassumption
  iintro HB
  iapply HK
  isplitl [H0 H1]
  · isplitl [H0]
    · iexists f0; isplitr; · ipureintro; exact e0
      iexact H0
    · iexists f1; isplitr; · ipureintro; exact e1
      iexact H1
  iexact HB

/-- All thirty-two chunks: every cell's batch has all its copies issued. -/
theorem chunks_rule (Q : PUnit → sProp 𝕄) (f : Vec F S4096x256 .f32) (g : Vec F S16x4096x256 .f32) (K : Body F) :
    iprop(tables d xh xw arg0 arg1 ∗ (bigSep Finset.univ fun c => Todo d f g c) ∗ bigSep Finset.univ fun i => B d (top xh) (top xw) i 0 0)
      ⊢ iprop((iprop(tables d xh xw arg0 arg1 ∗ bigSep Finset.univ fun i => B d (top xh) (top xw) i 32 0) -∗ Wp d Q K)
          -∗ Wp d Q (each (chunk arg0 arg1 out scr cc0_scratch1) 32 le_rfl K)) := by
  have key := each_rule (n := 32) (f := chunk (F := F) arg0 arg1 out scr cc0_scratch1) (Wp d Q)
    (fun k => iprop(tables d xh xw arg0 arg1 ∗ (bigSep (pending (n := 32) k) fun c => Todo d f g c)
      ∗ bigSep Finset.univ fun i => B d (top xh) (top xw) i k 0)) ?_ K 32 le_rfl
  · rw [Nat.sub_self, Transfers.pending_zero] at key
    iintro H HK
    iapply key $$ H
    iintro ⟨HT, -, HB⟩
    iapply HK
    isplitl [HT] <;> iassumption
  · intro c K
    rw [Transfers.bigSep_pending_step _ c.1 c.2]
    iintro ⟨HT, ⟨Hc, Hrest⟩, HB⟩ HK
    iapply (chunk_rule d xh xw arg0 arg1 Q f g c K) $$ [HT Hc HB]
    · isplitl [HT]; · iexact HT
      isplitl [Hc] <;> iassumption
    iintro ⟨HT, HB⟩
    iapply HK
    isplitl [HT]; · iexact HT
    isplitl [Hrest] <;> iassumption

/-- All the waits: every unit of every cell consumed. -/
theorem waits_rule (th tw : Vec F S64x128 .f32) (Q : PUnit → sProp 𝕄) (K : Body F) :
    iprop((bigSep Finset.univ fun i => B d th tw i 32 0) ∗ (∃ W, owes (d : Thread nD τ) 0 W))
      ⊢ iprop((iprop((bigSep Finset.univ fun i => B d th tw i 32 (unit * 32)) ∗ (∃ W, owes (d : Thread nD τ) 0 W)) -∗ Wp d Q K)
          -∗ Wp d Q (each (fun c => each (await out scr cc0_scratch1 c) 16 le_rfl) 32 le_rfl K)) :=
  each_rule (n := 32) (f := fun c => each (await (F := F) out scr cc0_scratch1 c) 16 le_rfl) (Wp d Q)
    (fun k => iprop((bigSep Finset.univ fun i => B d th tw i 32 (unit * k)) ∗ (∃ W, owes (d : Thread nD τ) 0 W)))
    (fun c K => awaits_rule d th tw Q c K) K 32 le_rfl

/-- The scratch buffer and the output whole are what the thirty-two chunks need. -/
theorem todo_eq (f : Vec F S4096x256 .f32) (g : Vec F S16x4096x256 .f32) :
    iprop((scrL d ↦{fullShare} f) ∗ (outL d ↦{fullShare} g)) = (bigSep Finset.univ fun c => Todo d f g c : sProp 𝕄) := by
  have e1 : (scrL d ↦{fullShare} f : sProp 𝕄) = bigSep Finset.univ fun c => scrL d ↦[(rows scr c).view.set]{fullShare} f := by
    have h := pointsTo_biUnion (Ix := Unit) (Val := Elt F) (Name := ℕ) (U := Pipeline.UD sig nD τ) (Lvl := ℕ) (ℓ := scrL d) (q := fullShare) (f := f)
      Finset.univ (fun c : Fin 32 => (rows scr c).view.set) (fun c _ c' _ h => rows_disjoint c c' h)
    rw [rows_cover] at h
    exact h
  have e2 : (outL d ↦{fullShare} g : sProp 𝕄)
      = bigSep Finset.univ fun c : Fin 32 => bigSep Finset.univ fun i : Fin 16 => outL d ↦[(piece out i c).view.set]{fullShare} g := by
    have h := pointsTo_biUnion (Ix := Unit) (Val := Elt F) (Name := ℕ) (U := Pipeline.UD sig nD τ) (Lvl := ℕ) (ℓ := outL d) (q := fullShare) (f := g)
      Finset.univ (fun p : Fin 16 × Fin 32 => (piece out p.1 p.2).view.set) (fun p _ p' _ h => piece_disjoint p p' h)
    rw [piece_cover] at h
    rw [← bigSep_univ_comm, ← bigSep_univ_prod (fun p : Fin 16 × Fin 32 => (outL d ↦[(piece out p.1 p.2).view.set]{fullShare} g : sProp 𝕄))]
    exact h
  rw [e1, e2, bigSep_sep']

/-- Every delivery together: the scratch buffer and the output whole at their final contents. -/
theorem dlv_eq (th tw : Vec F S64x128 .f32) :
    (bigSep Finset.univ fun i => bigSep Finset.univ fun c => Dlv d th tw i c)
      = (iprop((scrL d ↦{fullShare} scrP th tw) ∗ (outL d ↦{fullShare} outG th tw)) : sProp 𝕄) := by
  have e : ∀ c : Fin 32, (scrL d ↦[(rows scr c).view.set]{fullShare} scrP th tw : sProp 𝕄)
        = bigSep Finset.univ fun i : Fin 16 => scrL d ↦[(rows scr c).view.set]{shr i} scrP th tw :=
    fun c => ShareLeaves.pointsTo_leaves _ _ 4 fullShare
  rw [todo_eq, bigSep_univ_comm]
  refine bigSep_congr fun c _ => ?_
  unfold Dlv Todo
  rw [e c, bigSep_sep']
  exact BI.Entails.antisymm BI.sep_comm BI.sep_comm

/-- The body: with the tables, the scratch buffer and the output whole, and every cell's counter at zero, it ends with the
    scratch buffer and the output at their final contents and every counter back at zero. -/
theorem flat_rule (Q : PUnit → sProp 𝕄) (f : Vec F S4096x256 .f32) (g : Vec F S16x4096x256 .f32) :
    iprop(tables d xh xw arg0 arg1 ∗ (scrL d ↦{fullShare} f) ∗ (outL d ↦{fullShare} g)
        ∗ (bigSep Finset.univ fun i => semVal ((d : Thread nD τ), cellL i) 0) ∗ (∃ W, owes (d : Thread nD τ) 0 W))
      ⊢ iprop((iprop(tables d xh xw arg0 arg1 ∗ (scrL d ↦{fullShare} scrP (top xh) (top xw)) ∗ (outL d ↦{fullShare} outG (top xh) (top xw))
          ∗ (bigSep Finset.univ fun i => semVal ((d : Thread nD τ), cellL i) 0) ∗ (∃ W, owes (d : Thread nD τ) 0 W)) -∗ Q ⟨⟩)
          -∗ Wp d Q (flat arg0 arg1 out scr cc0_scratch1)) := by
  unfold flat
  have ha : (bigSep Finset.univ fun i => semVal ((d : Thread nD τ), cellL i) 0 : sProp 𝕄)
      ⊢ |={Set.univ}=> bigSep Finset.univ fun i => B d (top xh) (top xw) i 0 0 :=
    (bigSep_mono fun i _ => Transfers.batch_alloc' (Lvl := ℕ) (countersEmb (U := Pipeline.UD sig nD τ)) (d : Thread nD τ)
      () unit (Dlv d (top xh) (top xw) i)).trans (bigSep_fupd _ _)
  have hc : (bigSep Finset.univ fun i => B d (top xh) (top xw) i 32 (unit * 32))
      ⊢ |={Set.univ}=> iprop(((scrL d ↦{fullShare} scrP (top xh) (top xw)) ∗ (outL d ↦{fullShare} outG (top xh) (top xw)))
          ∗ bigSep Finset.univ fun i => semVal ((d : Thread nD τ), cellL i) 0) := by
    have h := (bigSep_mono (s := Finset.univ) fun i _ => Transfers.batch_collect' (Lvl := ℕ) (countersEmb (U := Pipeline.UD sig nD τ))
      (d : Thread nD τ) (sm := cellL i) (ι := ()) unit_pos (D := Dlv d (top xh) (top xw) i)).trans (bigSep_fupd _ _)
    rw [bigSep_sep', dlv_eq] at h
    exact h
  iintro ⟨HT, HS, HO, HV, HW⟩ HK
  imod ha $$ HV with HB
  iapply (chunks_rule d xh xw arg0 arg1 Q f g _) $$ [HT HS HO HB]
  · isplitl [HT]; · iexact HT
    isplitr [HB]
    · rw [← todo_eq]
      isplitl [HS] <;> iassumption
    iexact HB
  iintro ⟨HT, HB⟩
  iapply (waits_rule d (top xh) (top xw) Q _) $$ [HB HW]
  · isplitl [HB] <;> iassumption
  iintro ⟨HB, HW⟩
  imod hc $$ HB with ⟨⟨HS, HO⟩, HV⟩
  rw [wp_ret]
  imodintro
  iapply HK
  isplitl [HT]; · iexact HT
  isplitl [HS]; · iexact HS
  isplitl [HO]; · iexact HO
  isplitl [HV] <;> iassumption

end run

end Cert.KernelIdeal.Pos
-- ==== Proof.Whole.lean ====
module

public import proofs.«01_k».proof.Proof.Run
public import proofs.«01_k».proof.Proof.Gen.KernelIdeal.Frame
public import Idealize.ShloMosaic.Lib.Pipeline.FrameSuffixV

@[expose] public section

noncomputable section

namespace Cert.KernelIdeal.Pos

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The sixteen cells the body uses are its own: unscoped by no staging buffer, pairwise distinct. -/
theorem ownSemFacts : Pipeline.OwnSemFacts spec0 (cellL : Fin 16 → SemLoc sig) := by decide

/-- The buffer the body writes: the kernel's result. -/
def R0 : Finset (Ref sig .tc) := {main_v0}
theorem H0_sub : (∅ : Finset (Ref sig .tc)) ⊆ Pipeline.restRefs sig spec0 := Finset.empty_subset _
theorem R0_sub : R0 ⊆ Pipeline.restRefs sig spec0 \ ∅ := by decide

/-- The two tables on device `c`. -/
abbrev tabH (c : Dev nD) : Vec F S128x128 .f32 := m ((c : Thread nD τ).loc main_arg1)
abbrev tabW (c : Dev nD) : Vec F S128x128 .f32 := m ((c : Thread nD τ).loc main_arg2)

/-- The contents after the region: the kernel's result at its end contents, everything else as before. -/
def G (c : Dev nD) : (b : Ref sig .tc) → Buf (Elt F) ((c : Thread nD τ).loc b) :=
  Function.update (V m c) main_v0 (outG (top (tabH m c)) (top (tabW m c)))

theorem G_out (c : Dev nD) : G m c main_v0 = outG (top (tabH m c)) (top (tabW m c)) := Function.update_self ..

/-- Each table is staged whole. -/
theorem iblk_H (c : Dev nD) (t : Fin cfg0.N) : iblk m c 0 t = tabH m c := by
  rw [show t = t0_0 from fin_N0 t]
  funext x
  show tabH m c _ = tabH m c x
  congr 1
  funext a
  fin_cases a <;> exact Fin.ext (by show 0 + 1 * _ = _; omega)

theorem iblk_W (c : Dev nD) (t : Fin cfg0.N) : iblk m c 1 t = tabW m c := by
  rw [show t = t0_0 from fin_N0 t]
  funext x
  show tabW m c _ = tabW m c x
  congr 1
  funext a
  fin_cases a <;> exact Fin.ext (by show 0 + 1 * _ = _; omega)

/-- The invariant around the body: the kernel's result as launched before it, at its end contents after it. -/
def Inv (c : Dev nD) (n : ℕ) : sProp 𝕄 :=
  Pipeline.ΦDRV cellL spec0 ∅ R0 (V m) (if n = 0 then V m else G m) c

/-- The proof data of the region on device `c`: the arrays as launched, each table's staging buffer left in place. -/
def dats (_ : Fin 1) (c : Dev nD) : Dat τ (Elt F) Unit ℕ (Pipeline.UD sig nD τ) ℕ cfg0 c where
  A w := V m c (Pipeline.arrRef spec0 w)
  after w t := match w with
    | ⟨0, _⟩ => tabH m c
    | ⟨1, _⟩ => tabW m c
  Φ n := Inv m c n.1
  q _ := fullShare
  owed _ := 0

theorem before_0 (c : Dev nD) (t : Fin cfg0.N) (d) : (dats m 0 c).before 0 t d = tabH m c :=
  ((dats m 0 c).before_in_eq_fetched 0 rfl (fun _ => rfl) (fun _ _ _ => rfl) (fun t => (iblk_H m c t).symm) t d).trans (iblk_H m c t)

theorem before_1 (c : Dev nD) (t : Fin cfg0.N) (d) : (dats m 0 c).before 1 t d = tabW m c :=
  ((dats m 0 c).before_in_eq_fetched 1 rfl (fun _ => rfl) (fun _ _ _ => rfl) (fun t => (iblk_W m c t).symm) t d).trans (iblk_W m c t)

/-- The invariant, spelt out. -/
theorem inv_eq (c : Dev nD) (n : ℕ) :
    Inv m c n = (iprop((∃ f, scrL c ↦{fullShare} f) ∗ (bigSep Finset.univ fun i => semVal ((c : Thread nD τ), cellL i) 0)
      ∗ emp ∗ (outL c ↦{fullShare} (if n = 0 then V m else G m) c main_v0)) : sProp 𝕄) := by
  unfold Inv Pipeline.ΦDRV Pipeline.ownSems0 R0
  rw [scopedRest0_eq, bigSep_singleton, bigSep_empty]
  rfl

/-- The body at its one point, between its invariants. -/
theorem sound_body (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d)))
      ⊢ wp frame (wpE (defs₀ (F := F)) Variants.none (c : Thread nD τ) none) Set.univ (bodyAt0 t) (fun _ =>
          iprop((dats m 0 c).Φ t.succ ∗ (dats m 0 c).owesAt () t.succ
            ∗ owns (c : Thread nD τ) (win0_0.stage (cfg0.slots t 0)) fullShare ((dats m 0 c).after 0 t)
            ∗ owns (c : Thread nD τ) (win0_1.stage (cfg0.slots t 1)) fullShare ((dats m 0 c).after 1 t))) := by
  have ht : t.1 = 0 := by rw [fin_N0 t]; rfl
  rw [show (dats m 0 c).Φ t.castSucc = Inv m c 0 from congrArg (Inv m c) ht,
    show (dats m 0 c).Φ t.succ = Inv m c 1 from congrArg (Inv m c) (congrArg Nat.succ ht), inv_eq, inv_eq]
  simp only [before_0, before_1, if_true, Nat.one_ne_zero, if_false, G_out]
  rw [show (dats m 0 c).after 0 t = tabH m c from rfl, show (dats m 0 c).after 1 t = tabW m c from rfl]
  unfold Dat.owesAt Pipeline.owesWithin bodyAt0
  rw [body_eq_flat]
  iintro ⟨⟨⟨%f, HS⟩, HV, -, HO⟩, ⟨%W, -, HW⟩, ⟨%d0, H0⟩, ⟨%d1, H1⟩⟩
  iapply (flat_rule c (tabH m c) (tabW m c) (win0_0.stage (cfg0.slots t 0)) (win0_1.stage (cfg0.slots t 1)) _ f _) $$ [HS HV HO HW H0 H1]
  · isplitl [H0 H1]
    · isplitl [H0] <;> iassumption
    isplitl [HS]; · iexact HS
    isplitl [HO]; · iexact HO
    isplitl [HV]; · iexact HV
    iexists W
    iexact HW
  iintro ⟨⟨H0, H1⟩, HS, HO, HV, ⟨%W', HW⟩⟩
  isplitl [HS HV HO]
  · isplitl [HS]
    · iexists _; iexact HS
    isplitl [HV]; · iexact HV
    isplitr; · iempintro
    iexact HO
  isplitl [HW]
  · iexists W'
    isplitr
    · ipureintro; exact fun _ _ => Or.inl trivial
    iexact HW
  isplitl [H0] <;> iassumption

theorem defs₀_row (t : Fin cfg0.N) :
    defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The program up to the region and what follows it. -/
theorem hmain_region : Pipeline.HMainK (Ix := Unit) (Name := ℕ) (U := Pipeline.UD sig nD τ) (Lvl := ℕ) cfgs 0 defs₀ Variants.none m (main (F := F)) (V m)
    (fun _ => Pipeline.chain ([hostOps1].map StableHlo.seq)) :=
  Pipeline.hmain_around cfgs 0 defs₀ Variants.none m main [] [hostOps1] (by simp only [List.Forall])
    (by simp only [List.Forall]) main_chain

/-- The program's result from its two tables: the kernel's output reshaped to the grid, features moved to the front. -/
def posOut (h w : Vec F S128x128 .f32) : Vec F S16x256x64x64 .f32 :=
  transpose S16x256x64x64 [0, 3, 1, 2]
    (shapeCast S16x64x64x256 (outG (top h) (top w)) Facts₀.shapeCasts_S16x4096x256_S16x64x64x256)
    Facts₀.transposes_S16x64x64x256_S16x256x64x64_0_3_1_2

set_option backward.isDefEq.respectTransparency.types false in
/-- The program runs to its end, its result `posOut` of the two tables, its arguments unchanged, every counter at zero. -/
theorem run_main : θ_run defs (onTc (τ := τ) (main (F := F))) ⟨m, fun _ => 0, ρ⟩ (fun r => (∀ c : Dev nD,
      r.2.mem ((c.tc : Thread nD τ).loc main_v2) = posOut (tabH m c) (tabW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_dmaR_aroundV (Q' := _) cfgs (dats m) (0 : Fin 1) launch0 cellL defs₀ Variants.none ownSemFacts ∅ R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmain_region m) (hA := fun _ _ => rfl)
    (hin := fun _ => .rfl) (hout := fun _ => .rfl)
    (hQ' := fun r ⟨h, hz⟩ => ⟨fun c => ⟨by
      rw [(h c).2 main_v2 (Pipeline.mem_restRefs_of main_v2 (by decide) (by decide))]
      simp only [hostOps1, List.flatten_cons, List.flatten_nil, List.append_nil]
      after_results_simp
      rw [Pipeline.withArrays_of_ne _ c _ _ main_v0 (by exact (by decide : ∀ w, Pipeline.arrRef spec0 w ≠ main_v0)),
        Pipeline.withR_of_mem _ R0 c _ main_v0 (by decide), G_out]
      rfl, by
      rw [(h c).2 main_arg0 (Pipeline.mem_restRefs_of main_arg0 (by decide) (by decide))]
      simp only [hostOps1, List.flatten_cons, List.flatten_nil, List.append_nil]
      after_results_simp
      rw [Pipeline.withArrays_of_ne _ c _ _ main_arg0 (by exact (by decide : ∀ w, Pipeline.arrRef spec0 w ≠ main_arg0)),
        Pipeline.withR_of_not_mem _ R0 c _ main_arg0 (by decide)]
      rfl,
      ((h c).1 0).trans ((dats m 0 c).arrAt_in 0 rfl _), ((h c).1 1).trans ((dats m 0 c).arrAt_in 1 rfl _)⟩, hz⟩)

end Cert.KernelIdeal.Pos
-- ==== Proof.Value.lean ====
module

public import proofs.«01_k».proof.Proof.Spec
public import proofs.«01_k».proof.Proof.Whole
public import Idealize.ShloMosaic.Lib.Pointwise
public import Idealize.ShloMosaic.Lib.Pointwise.IndexBridge

@[expose] public section

noncomputable section

namespace Cert.KernelIdeal.Pos

open Idealize.ShloMosaic Idealize.ShloMosaic.TcCoe
open Cert.Embedding (posEmb posEmb_left posEmb_right)

/-- The word that a chunk computes for the column of place `p`: the remainder by 64, moved up by 64 were it negative. -/
def colWord (p : BitVec 32) : BitVec 32 :=
  have d : BitVec 32 := Scalar.select (Scalar.cmpi CmpIPredicate.eq 64#32 0#32) 1#32 64#32
  have r : BitVec 32 := IntOp.remsi ArithUnit.vector p d
  Scalar.select
    (IntOp.andi (IntOp.xori (IntOp.cmpi CmpIPredicate.slt r 0#32) (Scalar.cmpi CmpIPredicate.slt d 0#32))
      (IntOp.cmpi CmpIPredicate.ne r 0#32))
    (IntOp.addi r d) r

/-- The word that a chunk computes for the row of place `p`: the quotient by 64, less one where the division of a
    negative number leaves a remainder. -/
def rowWord (p : BitVec 32) : BitVec 32 :=
  Scalar.select
    (IntOp.andi
      (IntOp.cmpi CmpIPredicate.ne
        (IntOp.subi (BitVec.setWidth 32 (IntOp.cmpi CmpIPredicate.sgt p 0#32))
          (BitVec.setWidth 32 (IntOp.cmpi CmpIPredicate.slt p 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector p 64#32) 0#32))
    (IntOp.subi (IntOp.divsi ArithUnit.vector p 64#32) 1#32)
    (IntOp.divsi ArithUnit.vector p 64#32)

/-- Place `p` of the 4096 is in column `p mod 64`. -/
theorem colWord_eq (p : Fin 4096) : colWord (BitVec.ofNat 32 p.1) = BitVec.ofNat 32 (p.1 % 64) := by
  revert p; decide +kernel

/-- Place `p` of the 4096 is in row `p / 64`. -/
theorem rowWord_eq (p : Fin 4096) : rowWord (BitVec.ofNat 32 p.1) = BitVec.ofNat 32 (p.1 / 64) := by
  revert p; decide +kernel

/-- Comparing two numbers below 64 as words, and reading the answer as a number, gives 1 where they are equal and 0
    elsewhere. -/
theorem hot (a k : Fin 64) :
    (FloatOps.sitofp (F := Ideal) FTy.f32
      (BitVec.setWidth 32 (IntOp.cmpi CmpIPredicate.eq (BitVec.ofNat 32 a.1) (BitVec.ofNat 32 k.1))) : EReal)
      = if k = a then 1 else 0 := by
  have e : BitVec.setWidth 32 (IntOp.cmpi CmpIPredicate.eq (BitVec.ofNat 32 a.1) (BitVec.ofNat 32 k.1))
      = if k = a then 1#32 else 0#32 := by
    revert a k; decide +kernel
  rw [e]
  show (((if k = a then 1#32 else 0#32 : BitVec 32).toInt : ℝ) : EReal) = _
  split <;> simp

/-- The column of row `j` of chunk `c`, and its row in the image. -/
def colOf (c : Fin 32) (j : Fin 128) : Fin 64 := ⟨(128 * c.1 + j.1) % 64, by omega⟩
def rowOf (c : Fin 32) (j : Fin 128) : Fin 64 := ⟨(128 * c.1 + j.1) / 64, by omega⟩

/-- The column selector of chunk `c` has its one 1 of row `j` at the column of that row. -/
theorem selW_hot (c : Fin 32) (j : Fin 128) (k : Fin 64) :
    selW (F := Ideal) c (ix2 j k) = if k = colOf c j then (1 : EReal) else 0 := by
  rw [← hot (colOf c j) k]
  pointwise [selW, absRow]
  rw [show (BitVec.ofNat 32 (colOf c j).1) = _ from (colWord_eq ⟨128 * c.1 + j.1, by omega⟩).symm]
  rw [BitVec.ofNat_add]
  rfl

/-- The row selector of chunk `c` has its one 1 of row `j` at the image's row of that row. -/
theorem selH_hot (c : Fin 32) (j : Fin 128) (k : Fin 64) :
    selH (F := Ideal) c (ix2 j k) = if k = rowOf c j then (1 : EReal) else 0 := by
  rw [← hot (rowOf c j) k]
  pointwise [selH, absRow]
  rw [show (BitVec.ofNat 32 (rowOf c j).1) = _ from (rowWord_eq ⟨128 * c.1 + j.1, by omega⟩).symm]
  rw [BitVec.ofNat_add]
  rfl

/-- The product of a selector, whose row `j` has its one 1 at `a`, with a table has row `a` of the table as row `j`. -/
theorem half_hot (sel : FVec Ideal S128x64 .f32) (tab : FVec Ideal S64x128 .f32) (j n : Fin 128) (a : Fin 64)
    (hsel : ∀ k, sel (ix2 j k) = if k = a then (1 : EReal) else 0) :
    half sel tab (ix2 j n) = tab (ix2 a n) := by
  pointwise [half]
  rw [Finset.sum_eq_single a]
  · rw [hsel, if_pos rfl]; exact one_mul _
  · intro k _ hk; rw [hsel, if_neg hk]; exact zero_mul _
  · intro h; exact absurd (Finset.mem_univ a) h

/-- The first 64 rows of a table, read at an index. -/
theorem top_apply (x : Vec Ideal S128x128 .f32) (a : Fin 64) (n : Fin 128) :
    top x (ix2 a n) = x (ix2 (⟨a.1, by omega⟩ : Fin 128) n) := by
  refine congrArg x ?_
  funext i
  match i with
  | ⟨0, _⟩ => exact Fin.ext (by show 0 + 1 * a.1 = a.1; omega)
  | ⟨1, _⟩ => exact Fin.ext (by show 0 + 1 * n.1 = n.1; omega)

/-- What the kernel returns is the position embedding of its two tables. -/
theorem posOut_eq (h w : Vec Ideal S128x128 .f32) : posOut h w = posEmb h w := by
  funext z
  idx_vars z
  by_cases lt : z1.1 < 128
  · rw [posEmb_left _ _ _ _ _ _ lt]
    pointwise [posOut, outG, scrP]
    simp only [← ix2_eq_valueIdx]
    rw [dif_pos lt]
    refine (half_hot _ _ _ _ _ (selW_hot _ _)).trans ((top_apply _ _ _).trans (congrArg w ?_))
    congr 1
    exact Fin.ext (by show (128 * ((z2.1 * 64 + z3.1) / 128) + (z2.1 * 64 + z3.1) % 128) % 64 = z3.1; omega)
  · rw [posEmb_right _ _ _ _ _ _ lt]
    pointwise [posOut, outG, scrP]
    simp only [← ix2_eq_valueIdx]
    rw [dif_neg lt]
    refine (half_hot _ _ _ _ _ (selH_hot _ _)).trans ((top_apply _ _ _).trans (congrArg h ?_))
    congr 1
    exact Fin.ext (by show (128 * ((z2.1 * 64 + z3.1) / 128) + (z2.1 * 64 + z3.1) % 128) / 64 = z2.1; omega)

end Cert.KernelIdeal.Pos
-- ==== Proof.Ref.lean ====
module

public import proofs.«01_k».proof.Proof.Spec
public import proofs.«01_k».proof.Proof.Gen.ReferenceIdeal.Run
public import Idealize.ShloMosaic.Lib.Pointwise
public import Idealize.ShloMosaic.Lib.Pointwise.IndexBridge
public import Idealize.ShloMosaic.Lib.Routing.Ops

@[expose] public section

noncomputable section

namespace Cert.ReferenceIdeal.Pos

open Idealize.ShloMosaic Idealize.ShloMosaic.TcCoe Idealize.SL.Sem
open Cert.Embedding (posEmb posEmb_left posEmb_right)

/-- The positions that the reference looks up are `0, 1, …, 63`: none is negative, so none is moved up by the table's
    length. -/
theorem position (k : Fin 64) :
    Scalar.select (IntOp.cmpi CmpIPredicate.slt (BitVec.ofNat 32 k.1) 0#32)
      (IntOp.addi (BitVec.ofNat 32 k.1) 128#32) (BitVec.ofNat 32 k.1) = BitVec.ofNat 32 k.1 := by
  revert k; decide +kernel

/-- Each of these positions lies in the table, so that no lookup is replaced by the fill value. -/
theorem inTable (k : Fin 64) :
    Finset.fold IntOp.andi (1#1) (fun _ : Fin 1 =>
      IntOp.andi (IntOp.cmpi CmpIPredicate.sge (BitVec.ofNat 32 k.1) 0#32)
        (IntOp.cmpi CmpIPredicate.sle (BitVec.ofNat 32 k.1) 127#32)) Finset.univ = 1#1 := by
  revert k; decide +kernel

/-- A lookup whose indices hold `k` at place `k` reads the table's vector number `k` there. -/
theorem lookup (x : Vec Ideal S128x128 .f32) (idx : IVec S64x1 32)
    (hidx : ∀ k : Fin 64, idx (ix2 k (0 : Fin 1)) = BitVec.ofNat 32 k.1) (k : Fin 64) (n : Fin 128) :
    Host.gather gather_S128x128_S64x1_S64x128_1_0_n_n_0_1_1128 x idx (ix2 k n)
      = x (ix2 (⟨k.1, by omega⟩ : Fin 128) n) := by
  simp only [ix2_eq_valueIdx] at hidx ⊢
  exact Routing.gather_row _ rfl rfl rfl rfl rfl x idx k n ⟨k.1, by omega⟩ (hidx k) (by decide)

/-- Every run of the reference ends with the position embedding of its two tables as its result, its arguments
    unchanged. -/
theorem run_main (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
          = posEmb (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, (h c).2⟩) (Value.run m ρ)
  rw [(h c).1]
  clear h
  funext z
  idx_vars z
  by_cases lt : z1.1 < 128
  · rw [posEmb_left _ _ _ _ _ _ lt]
    pointwise
    simp only [position, inTable]
    exact (dif_pos lt).trans (lookup _ _ (fun k => by pointwise; exact position k) _ _)
  · rw [posEmb_right _ _ _ _ _ _ lt]
    pointwise
    simp only [position, inTable]
    exact (dif_neg lt).trans (lookup _ _ (fun k => by pointwise; exact position k) _ _)

/-- The reference has no semaphores: what any two assignments give them is the same. -/
theorem sem_eq (s t : GSem nD τ sig → Int) : s = t := by
  funext l
  obtain ⟨c, l⟩ := l
  cases l with
  | reg s => exact s.elim0
  | dma s => exact s.elim0

end Cert.ReferenceIdeal.Pos
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.SL.Sem Cert.Kernel

/-- Every run of the kernel's program, whatever the numbers are, leaves its arguments as they were and every semaphore
    at zero. -/
theorem frame {F : FTy → Type} [FloatOps F]
    (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F))
      (onTc (τ := Cert.KernelIdeal.τ) (Cert.KernelIdeal.main (F := F))) ⟨m, fun _ => 0, g⟩ (fun r =>
      (∀ c : Dev Cert.KernelIdeal.nD,
        r.2.mem ((c.tc : Thread _ _).loc Cert.KernelIdeal.main_arg0) = m ((c.tc : Thread _ _).loc Cert.KernelIdeal.main_arg0)
        ∧ r.2.mem ((c.tc : Thread _ _).loc Cert.KernelIdeal.main_arg1) = m ((c.tc : Thread _ _).loc Cert.KernelIdeal.main_arg1)
        ∧ r.2.mem ((c.tc : Thread _ _).loc Cert.KernelIdeal.main_arg2) = m ((c.tc : Thread _ _).loc Cert.KernelIdeal.main_arg2))
      ∧ r.2.sem = fun _ => 0) :=
  (θ_run Cert.KernelIdeal.defs _ _).mono (fun _ h => ⟨fun c => (h.1 c).2, h.2⟩) (Cert.KernelIdeal.Pos.run_main m g)

/-- The kernel as printed and its idealization give their one body label the same program. -/
theorem bodies_eq : (Cert.Kernel.defs₀ (F := Bits) : Defs Cert.KernelIdeal.nD Cert.KernelIdeal.τ Cert.KernelIdeal.sig
    (Elt Bits) Cert.KernelIdeal.Λ₀) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig)
    (Val := Elt Bits) (Λ := Cert.KernelIdeal.Λ₀)) ?_
  funext l a
  match l, a with
  | ⟨0, _⟩, (t, s) => rfl

/-- The kernel as printed, at the bit patterns: the idealization is the same program text. -/
theorem frame_kernel : quiescent_Kernel (hKernel := Cert.Kernel.Gen.facts) := fun m g _ => by
  have h := frame (F := Bits) m g
  rw [← show Pipeline.defs (Cert.KernelIdeal.pcfgs (F := Bits)) Cert.Kernel.defs₀ = Cert.KernelIdeal.defs (F := Bits) from
    congrArg (Pipeline.defs Cert.KernelIdeal.pcfgs) bodies_eq] at h
  exact h

/-- The same at the extended reals. -/
theorem frame_kernelIdeal : quiescent_KernelIdeal (hKernelIdeal := Cert.KernelIdeal.Gen.facts) :=
  fun m g _ => frame (F := Ideal) m g

/-- The reference runs and leaves its arguments as they were; it has no semaphores. -/
theorem frame_referenceIdeal : quiescent_ReferenceIdeal (hReferenceIdeal := Cert.ReferenceIdeal.Gen.facts) :=
  fun m g _ => (θ_run Cert.ReferenceIdeal.defs _ _).mono
    (fun _ h => ⟨fun c => (h c).2, Cert.ReferenceIdeal.Pos.sem_eq _ _⟩) (Cert.ReferenceIdeal.Pos.run_main m g)

/-- The kernel and the reference both return the position embedding of their two tables. -/
theorem algebraic : algebraic_KernelIdeal_ReferenceIdeal (hKernelIdeal := Cert.KernelIdeal.Gen.facts)
    (hReferenceIdeal := Cert.ReferenceIdeal.Gen.facts) := fun m g m' g' _ hm =>
  ⟨fun c => Cert.Embedding.posEmb (Cert.KernelIdeal.Pos.tabH m c) (Cert.KernelIdeal.Pos.tabW m c),
    (θ_run Cert.KernelIdeal.defs _ _).mono
      (fun _ h c => ⟨(h.1 c).1.trans (Cert.KernelIdeal.Pos.posOut_eq _ _), (h.1 c).2⟩)
      (Cert.KernelIdeal.Pos.run_main m g),
    (θ_run Cert.ReferenceIdeal.defs _ _).mono
      (fun _ h c => ⟨(h c).1.trans (congrArg₂ Cert.Embedding.posEmb (hm c).2.1 (hm c).2.2), (h c).2⟩)
      (Cert.ReferenceIdeal.Pos.run_main m' g')⟩

/-- Every claim made of the kernel and its reference holds. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
